-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S16384x64 : Shape := ⟨2, ![16384, 64]⟩
abbrev S512x4096 : Shape := ⟨2, ![512, 4096]⟩
abbrev S1024x64 : Shape := ⟨2, ![1024, 64]⟩
abbrev S512x64 : Shape := ⟨2, ![512, 64]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S64x4096, .f32⟩
  | .local _ .vmem, ⟨5, _⟩ => ⟨S1024x64, .f32⟩
  | .local _ .vmem, ⟨6, _⟩ => ⟨S1024x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x4096 : Shape := ⟨3, ![4, 4096, 4096]⟩
abbrev S64x4096 : Shape := ⟨2, ![64, 4096]⟩
abbrev S16384x4096 : Shape := ⟨2, ![16384, 4096]⟩
abbrev S4096x64 : Shape := ⟨2, ![4096, 64]⟩
abbrev S16384x64 : Shape := ⟨2, ![16384, 64]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S4096x64, .f32⟩
  | .hbm, ⟨4, _⟩ => ⟨S16384x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Router.Logits.lean ====
/-
  The router's logits as mathematics: each token's hidden row against each expert's weight row, and the two printed
  products (the kernel's per-block `[512,4096] × [64,4096]ᵀ`, the reference's whole `[16384,4096] × [4096,64]`) read at
  an index as such a sum. Everything here is over the extended reals.
-/
module

public import proofs.«01_k».proof.Proof.Gen.KernelIdeal
public import proofs.«01_k».proof.Proof.Gen.ReferenceIdeal
public import Idealize.ShloMosaic.PureOps.Ideal.Laws
public import Idealize.ShloMosaic.Lib.MatmulPlain
public import Idealize.ShloMosaic.Lib.StackMember
public import Idealize.ShloMosaic.Lib.Pipeline.Value

@[expose] public section

noncomputable section

namespace Cert.Router

open Idealize.ShloMosaic Idealize.ShloMosaic.ValueIdx
open scoped BigOperators

/-- The logits of `M` token rows against 64 expert rows: at (token `r`, expert `e`) the sum over the 4096 hidden
    coordinates of `x[r,k] · w[e,k]`. -/
def logits {M : ℕ} (x : (⟨2, ![M, 4096]⟩ : Shape).Idx → EReal) (w : (⟨2, ![64, 4096]⟩ : Shape).Idx → EReal) :
    (⟨2, ![M, 64]⟩ : Shape).Idx → EReal :=
  fun i => ∑ k : Fin 4096, x (ix2 (i 0) k) * w (ix2 (i 1) k)

/-- A logit depends on its own token's row only: if row `i` of `x` is row `i'` of `x'`, at the same expert, the two
    logits are equal. -/
theorem logits_congr_row {M M' : ℕ} {x : (⟨2, ![M, 4096]⟩ : Shape).Idx → EReal}
    {x' : (⟨2, ![M', 4096]⟩ : Shape).Idx → EReal} (w : (⟨2, ![64, 4096]⟩ : Shape).Idx → EReal)
    {i : (⟨2, ![M, 64]⟩ : Shape).Idx} {i' : (⟨2, ![M', 64]⟩ : Shape).Idx} (he : i 1 = i' 1)
    (hx : ∀ k : Fin 4096, x (ix2 (i 0) k) = x' (ix2 (i' 0) k)) : logits x w i = logits x' w i' := by
  unfold logits
  refine Finset.sum_congr rfl fun k _ => ?_
  rw [hx k, he]

/-- The kernel's block product, accumulated into a zero block, is the logits of its 512 rows. -/
theorem block_product (x : FVec Ideal Cert.KernelIdeal.S512x4096 .f32) (w : FVec Ideal Cert.KernelIdeal.S64x4096 .f32) :
    matmul Cert.KernelIdeal.dot_S512x4096_S64x4096_S512x64_1_1_0_0_n_n none x w
      (constant Cert.KernelIdeal.S512x64 .f32 0x00000000#32) = logits (M := 512) x w := by
  funext i
  have hd : Cert.KernelIdeal.dot_S512x4096_S64x4096_S512x64_1_1_0_0_n_n = DotDims.transposedRhs 512 4096 64 := rfl
  rw [hd, eq_ix2 i]
  refine (Ideal.matmul_transposedRhs_apply none x w _ (i 0) (i 1)).trans ?_
  show Ideal.ofBits .f32 0x00000000#32 + _ = _
  rw [Ideal.ofBits_zero_f32, zero_add]
  rfl

/-- The reference's product with the transposed weights is the logits of all 16384 rows. -/
theorem whole_product (x : FVec Ideal Cert.ReferenceIdeal.S16384x4096 .f32) (w : FVec Ideal Cert.ReferenceIdeal.S64x4096 .f32) :
    Host.dotGeneral Cert.ReferenceIdeal.dot_S16384x4096_S4096x64_S16384x64_1_0_0_1_n_n none x
      (transpose Cert.ReferenceIdeal.S4096x64 [1, 0] w Cert.ReferenceIdeal.Facts₀.transposes_S64x4096_S4096x64_1_0)
      = logits (M := 16384) x w := by
  funext i
  have hd : Cert.ReferenceIdeal.dot_S16384x4096_S4096x64_S16384x64_1_0_0_1_n_n = DotDims.plain 16384 4096 64 := rfl
  rw [hd, eq_ix2 i]
  refine (StackMember.dotGeneral_plain_apply none x _ (i 0) (i 1)).trans ?_
  unfold logits
  refine Finset.sum_congr rfl fun k _ => congrArg (x (ix2 (i 0) k) * ·) ?_
  exact transpose_apply [1, 0] w _ _ (ix2 (i 1) k) fun b => by
    match b with
    | ⟨0, _⟩ => rfl
    | ⟨1, _⟩ => rfl

end Cert.Router

end
-- ==== Proof.Router.Block.lean ====
/-
  What one grid point computes and where it lies: the body's two stores fill the [1024,64] staging buffer with the logits
  of the 1024 rows that its two input stripes make up, one on top of the other, and those rows are rows
  `1024·t … 1024·t + 1023` of the flattened hidden states.
-/
module

public import proofs.«01_k».proof.Proof.Router.Logits
public import proofs.«01_k».proof.Proof.Gen.KernelIdeal.Frame

@[expose] public section

noncomputable section

namespace Cert.Router

open Idealize.ShloMosaic Idealize.ShloMosaic.TcCoe Idealize.ShloMosaic.ValueIdx Idealize.SL.Sem
open Cert.KernelIdeal Cert.KernelIdeal.Gen

/-- The all-zero offsets of a whole-buffer access. -/
theorem offsets_zero : (![0, 0] : Fin 2 → Nat) = fun _ => 0 := funext fun a => by fin_cases a <;> rfl

/-- Either store's payload is the logits of the stripe it reads. -/
theorem payload_first (x : Vec Ideal S512x4096 .f32) (w : Vec Ideal S64x4096 .f32) :
    k0_pay1 (F := Ideal) x w = logits (M := 512) x w := by
  unfold k0_pay1
  rw [shapeCast_self]
  exact block_product x w

theorem payload_second (x : Vec Ideal S512x4096 .f32) (w : Vec Ideal S64x4096 .f32) :
    k0_pay2 (F := Ideal) x w = logits (M := 512) x w := payload_first x w

/-- The body's result: if the two stripes are the upper and the lower 512 rows of `h`, the staging buffer ends holding
    the logits of `h`. -/
theorem body_result (x0 x1 : Vec Ideal S512x4096 .f32) (w : Vec Ideal S64x4096 .f32)
    (h : (⟨2, ![1024, 4096]⟩ : Shape).Idx → EReal)
    (h0 : ∀ (r : Fin 512) (k : Fin 4096), x0 (ix2 r k) = h (ix2 ⟨r.val, by omega⟩ k))
    (h1 : ∀ (r : Fin 512) (k : Fin 4096), x1 (ix2 r k) = h (ix2 ⟨512 + r.val, by omega⟩ k)) :
    out0_3 (F := Ideal) x0 x1 w = logits (M := 1024) h w := by
  unfold out0_3
  rw [View.ld_unit_zero (S := S512x4096) offsets_zero, View.ld_unit_zero (S := S512x4096) offsets_zero,
    View.ld_unit_zero (S := S64x4096) offsets_zero, payload_first, payload_second]
  funext y
  refine View.canon_apply_of_pieces (Val := Elt Ideal) (S := S1024x64) (e := .f32) (logits (M := 1024) h w) _ (fun p hp x => ?_) y (cover0_3 _ _ y)
  rcases List.mem_cons.mp hp with rfl | hp
  · refine logits_congr_row w (Fin.ext ?_) fun k => (h1 (x 0) k).trans (congrArg (fun a => h (ix2 a k)) (Fin.ext ?_))
    · show (x 1).val = 0 + 1 * (x 1).val; omega
    · show 512 + (x 0).val = 512 + 1 * (x 0).val; omega
  · obtain rfl := List.mem_singleton.mp hp
    refine logits_congr_row w (Fin.ext ?_) fun k => (h0 (x 0) k).trans (congrArg (fun a => h (ix2 a k)) (Fin.ext ?_))
    · show (x 1).val = 0 + 1 * (x 1).val; omega
    · show (x 0).val = 0 + 1 * (x 0).val; omega

variable (m : (ℓ : Loc nD τ sig) → Buf (Elt Ideal) ℓ)

/-- The flattened hidden states, [4,4096,4096] read in row-major order as [16384,4096]. -/
abbrev hidden (c : Dev nD) : S16384x4096.Idx → EReal :=
  shapeCast S16384x4096 (m ((c : Thread nD τ).loc main_arg0)) shapeCasts_S4x4096x4096_S16384x4096

/-- The experts' weights. -/
abbrev weights (c : Dev nD) : S64x4096.Idx → EReal := m ((c : Thread nD τ).loc main_arg1)

/-- When the pallas_call starts, the array that both streams read holds the flattened hidden states. -/
theorem entry_hidden (c : Dev nD) : V m c main_v0 = hidden m c := by
  show StableHlo.after hostOps0 (fun b => m (c, b)) (Proc.devRef .tc main_v0) = _
  after_results
  rfl

/-- At grid point `t` the first stream is on stripe `2t`, the second on stripe `2t + 1`, the weights are whole and the
    result is on block `t`. -/
theorem stripe_index : ∀ t : Fin cfg0.N,
    (win0_0.index t 0 = 2 * t.val ∧ win0_0.index t 1 = 0) ∧ (win0_1.index t 0 = 2 * t.val + 1 ∧ win0_1.index t 1 = 0)
      ∧ (win0_2.index t 0 = 0 ∧ win0_2.index t 1 = 0) ∧ (win0_3.index t 0 = t.val ∧ win0_3.index t 1 = 0) :=
  (by decide +kernel : ∀ t : Fin grid0.N,
    (win0_0.index t 0 = 2 * t.val ∧ win0_0.index t 1 = 0) ∧ (win0_1.index t 0 = 2 * t.val + 1 ∧ win0_1.index t 1 = 0)
      ∧ (win0_2.index t 0 = 0 ∧ win0_2.index t 1 = 0) ∧ (win0_3.index t 0 = t.val ∧ win0_3.index t 1 = 0))

/-- There are 16 grid points. -/
theorem point_lt (t : Fin cfg0.N) : t.val < 16 := by
  have h := t.isLt
  have hN : cfg0.N = 16 := N_0
  omega

/-- The 1024 token rows of grid point `t`. -/
def tokenRows (c : Dev nD) (t : Fin cfg0.N) : (⟨2, ![1024, 4096]⟩ : Shape).Idx → EReal := fun y =>
  hidden m c (ix2 ⟨1024 * t.val + (y 0).val, by have := point_lt t; have := idx2_lt0 y; omega⟩ (y 1))

/-- The first stream's block holds the upper 512 of them. -/
theorem first_stripe (c : Dev nD) (t : Fin cfg0.N) (r : Fin 512) (k : Fin 4096) :
    iblk m c 0 t (ix2 r k) = tokenRows m c t (ix2 ⟨r.val, by omega⟩ k) := by
  obtain ⟨⟨e0, e1⟩, -⟩ := stripe_index t
  unfold iblk tokenRows
  rw [View.read_apply]
  show V m c main_v0 _ = _
  rw [entry_hidden]
  refine congrArg (hidden m c) (Shape.idx_ext₂ ?_ ?_)
  · show win0_0.index t 0 * 512 + 1 * r.val = 1024 * t.val + r.val; rw [e0]; omega
  · show win0_0.index t 1 * 4096 + 1 * k.val = k.val; rw [e1]; omega

/-- The second stream's block holds the lower 512. -/
theorem second_stripe (c : Dev nD) (t : Fin cfg0.N) (r : Fin 512) (k : Fin 4096) :
    iblk m c 1 t (ix2 r k) = tokenRows m c t (ix2 ⟨512 + r.val, by omega⟩ k) := by
  obtain ⟨-, ⟨e0, e1⟩, -⟩ := stripe_index t
  unfold iblk tokenRows
  rw [View.read_apply]
  show V m c main_v0 _ = _
  rw [entry_hidden]
  refine congrArg (hidden m c) (Shape.idx_ext₂ ?_ ?_)
  · show win0_1.index t 0 * 512 + 1 * r.val = 1024 * t.val + (512 + r.val); rw [e0]; omega
  · show win0_1.index t 1 * 4096 + 1 * k.val = k.val; rw [e1]; omega

/-- The weights' block is the whole weight array at every point. -/
theorem weight_block (c : Dev nD) (t : Fin cfg0.N) : (iblk m c 2 t : S64x4096.Idx → EReal) = weights m c := by
  obtain ⟨-, -, ⟨e0, e1⟩, -⟩ := stripe_index t
  funext i
  unfold iblk
  rw [View.read_apply]
  show V m c main_arg1 _ = _
  rw [V_main_arg1]
  refine congrArg (weights m c) (Shape.idx_ext₂ ?_ ?_)
  · show win0_2.index t 0 * 64 + 1 * (i 0).val = (i 0).val; rw [e0]; omega
  · show win0_2.index t 1 * 4096 + 1 * (i 1).val = (i 1).val; rw [e1]; omega

/-- So after grid point `t` the result's staging buffer holds the logits of that point's 1024 token rows. -/
theorem point_result (c : Dev nD) (t : Fin cfg0.N) :
    out0_3 (F := Ideal) (iblk m c 0 t) (iblk m c 1 t) (iblk m c 2 t) = logits (M := 1024) (tokenRows m c t) (weights m c) :=
  (body_result _ _ _ (tokenRows m c t) (first_stripe m c t) (second_stripe m c t)).trans
    (congrArg (logits (M := 1024) (tokenRows m c t)) (weight_block m c t))

end Cert.Router

end
-- ==== Proof.Router.Array.lean ====
/-
  What the kernel's result array holds after the run: the logits of all 16384 tokens. Each of the 16 grid points writes
  back its own 1024 rows, and the 16 blocks tile the array.
-/
module

public import proofs.«01_k».proof.Proof.Router.Block
public import proofs.«01_k».proof.Proof.Gen.KernelIdeal.Value

@[expose] public section

noncomputable section

namespace Cert.Router

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The logits of device `c`'s arguments: all 16384 token rows against the 64 experts. -/
abbrev allLogits (c : Dev nD) : Buf (Elt Ideal) ((c : Thread nD τ).loc main_v1) :=
  logits (M := 16384) (hidden m c) (weights m c)

/-- What grid point `t` writes back is block `t` of all the logits. -/
theorem flushed_eq (c : Dev nD) (t : Fin cfg0.N) :
    (dats m 0 c).flushed 3 t = ((cfg0.win 3).blk t).view.read (Elt Ideal) (allLogits m c) := by
  obtain ⟨-, -, -, e0, e1⟩ := stripe_index t
  refine (Value.flushed3 m c t).trans ((congrArg ((cfg0.win 3).cut (grid0.coords t)) (point_result m c t)).trans ?_)
  funext y
  rw [View.read_apply]
  refine logits_congr_row (M := 1024) (M' := 16384) (weights m c) (Fin.ext ?_) fun k => ?_
  · show (y 1).val = win0_3.index t 1 * 64 + 1 * (y 1).val; rw [e1]; omega
  · refine congrArg (fun a => hidden m c (ix2 a k)) (Fin.ext ?_)
    show 1024 * t.val + (y 0).val = win0_3.index t 0 * 1024 + 1 * (y 0).val; rw [e0]; omega

/-- Row `r` of the result lies in the block of grid point `r / 1024`. -/
theorem covered (i : S16384x64.Idx) :
    ∃ t : Fin cfg0.N, (cfg0.win 3).flush t = true ∧ i ∈ ((cfg0.win 3).blk t).view.set := by
  have h0 : (i 0).val < 16384 := (i 0).isLt
  have h1 : (i 1).val < 64 := (i 1).isLt
  have hN : cfg0.N = 16 := N_0
  obtain ⟨t, ht⟩ : ∃ t : Fin cfg0.N, t.val = (i 0).val / 1024 := ⟨⟨(i 0).val / 1024, by omega⟩, rfl⟩
  obtain ⟨-, -, -, e0, e1⟩ := stripe_index t
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [e0]; omega
  | ⟨1, _⟩ =>
    show win0_3.index t 1 * 64 ≤ (i 1).val ∧ (i 1).val < win0_3.index t 1 * 64 + 64
    rw [e1]; omega

/-- The result array after the run holds all the logits. -/
theorem final_array (c : Dev nD) : (dats m 0 c).arrAt 3 cfg0.N = allLogits m c :=
  (dats m 0 c).arrAt_eq_of_cover 3 (allLogits m c) (fun t _ => flushed_eq m c t) covered

/-- The kernel's run: it ends with all the logits in the result and its arguments unchanged. -/
theorem kernel_run : θ_run (defs (F := Ideal)) (onTc (τ := τ) (main (F := Ideal))) ⟨m, fun _ => 0, ρ⟩ fun r => ∀ c : Dev nD,
      r.2.mem ((c : Thread nD τ).loc main_v1) = allLogits m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_array m c), (h c).2⟩) (Value.run_blocks m ρ)

end Cert.Router

end
-- ==== Proof.lean ====
/-
  The proof of `Cert.Claim`: the frames are the generated ones, `preserves` has no rewrite to justify, and `algebraic`
  says that both programs end holding the router's logits (Proof/Router/): the kernel because its 16 blocks of 1024
  rows, each from two stripes of 512, are the logits of those rows; the reference because its one product is.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Router.Array
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's frame: its run leaves the arguments as they were, and it has no semaphore. -/
theorem reference_frame : Cert.quiescent_ReferenceIdeal := fun m ρ _ =>
  (θ_run Cert.ReferenceIdeal.defs _ _).mono (fun r h => ⟨fun c => ⟨(h c).2.1, (h c).2.2⟩,
      sem_eq_zero_of_no_sems (by decide) r.2⟩)
    (Cert.ReferenceIdeal.Value.run (F := Ideal) m ρ)

/-- Kernel and reference compute the same function over the extended reals: both results are the logits. -/
theorem algebraic : Cert.algebraic_KernelIdeal_ReferenceIdeal := by
  intro m ρ m' ρ' _ hagree
  refine ⟨fun c => Cert.Router.allLogits m c, Cert.Router.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.Router.whole_product _ _).trans ?_
  show Cert.Router.logits (M := 16384) _ _ = Cert.Router.logits (M := 16384) _ _
  rw [(hagree c).1, (hagree c).2]

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
